-- ==== Defs.lean ====
def Pre_Kernel [hPre_chunk_holds_update : Cert.Pre_chunk_holds_update.Facts] (m : (ℓ : Loc Cert.Kernel.nD Cert.Kernel.τ Cert.Kernel.sig) → Buf (Elt Bits) ℓ) : Prop :=
  ∀ c : Dev Cert.Kernel.nD,
    (Cert.Pre_chunk_holds_update.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_chunk_holds_update : Cert.Pre_chunk_holds_update.Facts] (m : (ℓ : Loc Cert.KernelIdeal.nD Cert.KernelIdeal.τ Cert.KernelIdeal.sig) → Buf (Elt Ideal) ℓ) : Prop :=
  ∀ c : Dev Cert.KernelIdeal.nD,
    (Cert.Pre_chunk_holds_update.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chunk_holds_update [hPre_chunk_holds_update : Cert.Pre_chunk_holds_update.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunk_holds_update.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_chunk_holds_update : Cert.Pre_chunk_holds_update.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_chunk_holds_update : Cert.Pre_chunk_holds_update.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_chunk_holds_update [hReferenceIdeal : Cert.ReferenceIdeal.Facts] [hPre_chunk_holds_update : Cert.Pre_chunk_holds_update.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunk_holds_update m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chunk_holds_update : Cert.Pre_chunk_holds_update.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_chunk_holds_update : Cert.Pre_chunk_holds_update.Facts),
    quiescent_Kernel (hKernel := hKernel) (hPre_chunk_holds_update := hPre_chunk_holds_update)
    ∧ quiescent_KernelIdeal (hKernelIdeal := hKernelIdeal) (hPre_chunk_holds_update := hPre_chunk_holds_update)
    ∧ quiescent_ReferenceIdeal (hReferenceIdeal := hReferenceIdeal)
    ∧ quiescent_ReferenceIdeal_pre_chunk_holds_update (hReferenceIdeal := hReferenceIdeal) (hPre_chunk_holds_update := hPre_chunk_holds_update)
    ∧ preserves_Kernel_KernelIdeal
    ∧ algebraic_KernelIdeal_ReferenceIdeal (hKernelIdeal := hKernelIdeal) (hReferenceIdeal := hReferenceIdeal) (hPre_chunk_holds_update := hPre_chunk_holds_update)
-- ==== Pre_chunk_holds_update.lean ====
abbrev S16x8x8x128 : Shape := ⟨4, ![16, 8, 8, 128]⟩
abbrev S8x8x4096x128 : Shape := ⟨4, ![8, 8, 4096, 128]⟩
abbrev S_ : Shape := ⟨0, ![]⟩

class Facts : Prop where

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S_ 32) (arg1 : IVec S_ 32) : IVec S_ 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S_ 32 := Host.remsi arg0 v2
  let c_1 : IVec S_ 32 := constantI S_ 32 0#32
  let v4 : IVec S_ 1 := cmpi .ne v3 c_1
  let c_2 : IVec S_ 32 := constantI S_ 32 0#32
  let v5 : IVec S_ 1 := cmpi .slt v3 c_2
  let c_3 : IVec S_ 32 := constantI S_ 32 0#32
  let v6 : IVec S_ 1 := cmpi .slt v2 c_3
  let v7 : IVec S_ 1 := cmpi .ne v5 v6
  let v8 : IVec S_ 1 := andi v7 v4
  let v9 : IVec S_ 32 := addi v3 v2
  let v10 : IVec S_ 32 := select v8 v9 v3
  v10

def fn {F : FTy → Type} [FloatOps F] (main_arg0 : FVec F S16x8x8x128 .f32) (main_arg1 : FVec F S16x8x8x128 .f32) (main_arg2 : FVec F S8x8x4096x128 .f32) (main_arg3 : FVec F S8x8x4096x128 .f32) (main_arg4 : IVec S_ 32) : IVec S_ 1 :=
  let main_c : IVec S_ 32 := constantI S_ 32 0#32
  let main_v0 : IVec S_ 1 := cmpi .sge main_arg4 main_c
  let main_c_0 : IVec S_ 32 := constantI S_ 32 4096#32
  let main_v1 : IVec S_ 1 := cmpi .slt main_arg4 main_c_0
  let main_v2 : IVec S_ 1 := andi main_v0 main_v1
  let main_c_1 : IVec S_ 32 := constantI S_ 32 1024#32
  let main_v3 : IVec S_ 32 := fn_remainder (F := F) main_arg4 main_c_1
  let main_c_2 : IVec S_ 32 := constantI S_ 32 1008#32
  let main_v4 : IVec S_ 1 := cmpi .sle main_v3 main_c_2
  let main_v5 : IVec S_ 1 := andi main_v2 main_v4
  main_v5
-- ==== Kernel.lean ====
abbrev S16x8x8x128 : Shape := ⟨4, ![16, 8, 8, 128]⟩
abbrev S8x8x4096x128 : Shape := ⟨4, ![8, 8, 4096, 128]⟩
abbrev S_ : Shape := ⟨0, ![]⟩
abbrev S1 : Shape := ⟨1, ![1]⟩
abbrev S8x1x1024x128 : Shape := ⟨4, ![8, 1, 1024, 128]⟩
abbrev S1x1x8x128 : Shape := ⟨4, ![1, 1, 8, 128]⟩
abbrev S8x128 : Shape := ⟨2, ![8, 128]⟩
abbrev S8x1x128 : Shape := ⟨3, ![8, 1, 128]⟩
abbrev S8x1x1x128 : Shape := ⟨4, ![8, 1, 1, 128]⟩

abbrev nBuf : Space → Nat
  | .hbm => 8
  | .vmem => 10
  | .smem => 1
  | _ => 0

abbrev bufTy : (tb : Table) → Fin (tcTables nBuf tb) → BufTy
  | .hbm, ⟨0, _⟩ => ⟨S16x8x8x128, .f32⟩
  | .hbm, ⟨1, _⟩ => ⟨S16x8x8x128, .f32⟩
  | .hbm, ⟨2, _⟩ => ⟨S8x8x4096x128, .f32⟩
  | .hbm, ⟨3, _⟩ => ⟨S8x8x4096x128, .f32⟩
  | .hbm, ⟨4, _⟩ => ⟨S_, .i32⟩
  | .hbm, ⟨5, _⟩ => ⟨S1, .i32⟩
  | .hbm, ⟨6, _⟩ => ⟨S8x8x4096x128, .f32⟩
  | .hbm, ⟨7, _⟩ => ⟨S8x8x4096x128, .f32⟩
  | .local _ .vmem, ⟨0, _⟩ => ⟨S16x8x8x128, .f32⟩
  | .local _ .vmem, ⟨1, _⟩ => ⟨S16x8x8x128, .f32⟩
  | .local _ .vmem, ⟨2, _⟩ => ⟨S8x1x1024x128, .f32⟩
  | .local _ .vmem, ⟨3, _⟩ => ⟨S8x1x1024x128, .f32⟩
  | .local _ .vmem, ⟨4, _⟩ => ⟨S8x1x1024x128, .f32⟩
  | .local _ .vmem, ⟨5, _⟩ => ⟨S8x1x1024x128, .f32⟩
  | .local _ .vmem, ⟨6, _⟩ => ⟨S8x1x1024x128, .f32⟩
  | .local _ .vmem, ⟨7, _⟩ => ⟨S8x1x1024x128, .f32⟩
  | .local _ .vmem, ⟨8, _⟩ => ⟨S8x1x1024x128, .f32⟩
  | .local _ .vmem, ⟨9, _⟩ => ⟨S8x1x1024x128, .f32⟩
  | .local _ .smem, ⟨0, _⟩ => ⟨S1, .i32⟩
  | _, _ => ⟨S16x8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c0_22 : Index := 0#32
  let arg0 : BitVec 32 := BitVec.ofNat 32 (i 0).val
  let v27 : Index := Scalar.indexCast arg0
  let c0_23 : Index := 0#32
  let c0_24 : Index := 0#32
  ![0, v27.toNat, 0, 0]
def k0_off2 (i : grid0.Coords) (v4 : BitVec 32) (c0_i32_25 : BitVec 32) : Fin 4 → Nat :=
  let c0_26 : Index := 0#32
  let c0_27 : Index := 0#32
  let arg1 : BitVec 32 := BitVec.ofNat 32 (i 1).val
  let c1024_i32_21 : BitVec 32 := 1024#32
  let v25 : BitVec 32 := Scalar.muli arg1 c1024_i32_21
  let v26 : BitVec 32 := Scalar.subi v4 v25
  let v31 : BitVec 32 := Scalar.addi v26 c0_i32_25
  let v32 : Index := Scalar.indexCast v31
  let c0_28 : Index := 0#32
  ![0, 0, v32.toNat, 0]
def k0_cond1 (i : grid0.Coords) (v4 : BitVec 32) : BitVec 1 :=
  let arg1 : BitVec 32 := BitVec.ofNat 32 (i 1).val
  let c0_i32 : BitVec 32 := 0#32
  let v6 : BitVec 1 := Scalar.cmpi .sgt v4 c0_i32
  let v7 : BitVec 32 := Scalar.extui v6
  let c0_i32_16 : BitVec 32 := 0#32
  let v8 : BitVec 1 := Scalar.cmpi .slt v4 c0_i32_16
  let v9 : BitVec 32 := Scalar.extui v8
  let v10 : BitVec 32 := Scalar.subi v7 v9
  let c1024_i32 : BitVec 32 := 1024#32
  let c0_i32_17 : BitVec 32 := 0#32
  let v11 : BitVec 1 := Scalar.cmpi .sgt c1024_i32 c0_i32_17
  let v12 : BitVec 32 := Scalar.extui v11
  let c0_i32_18 : BitVec 32 := 0#32
  let v13 : BitVec 1 := Scalar.cmpi .slt c1024_i32 c0_i32_18
  let v14 : BitVec 32 := Scalar.extui v13
  let v15 : BitVec 32 := Scalar.subi v12 v14
  let v16 : BitVec 1 := Scalar.cmpi .ne v10 v15
  let v17 : BitVec 32 := Scalar.remsi v4 c1024_i32
  let c0_i32_19 : BitVec 32 := 0#32
  let v18 : BitVec 1 := Scalar.cmpi .ne v17 c0_i32_19
  let v19 : BitVec 1 := Scalar.andi v16 v18
  let v5 : BitVec 32 := Scalar.divsi v4 c1024_i32
  let c1_i32 : BitVec 32 := 1#32
  let v20 : BitVec 32 := Scalar.subi v5 c1_i32
  let v21 : BitVec 32 := Scalar.select v19 v20 v5
  let v22 : BitVec 1 := Scalar.cmpi .eq arg1 v21
  let v23 : BitVec 32 := Scalar.extui v22
  let c0_i32_20 : BitVec 32 := 0#32
  let v24 : BitVec 1 := Scalar.cmpi .ne v23 c0_i32_20
  v24

def k0_chk1 (i : grid0.Coords) (v4 : BitVec 32) : Prop :=
  (∀ (k0_h1 : k0_cond1 i v4 = 1#1), ∀ (r : Fin 16), ∀ a, (k0_off2 i v4 (BitVec.ofNat 32 r.val)) a + S8x1x1x128.size a ≤ S8x1x1024x128.size a)
theorem k0_off2_inb : ∀ (i : grid0.Coords) (v4 : BitVec 32) (k0_hw1 : k0_chk1 i v4), ∀ (k0_h1 : k0_cond1 i v4 = 1#1), ∀ (r : Fin 16), ∀ a, (k0_off2 i v4 (BitVec.ofNat 32 r.val)) a + S8x1x1x128.size a ≤ S8x1x1024x128.size a := fun i v4 k0_hw1 k0_h1 r => k0_hw1 k0_h1 r

def k0_off3 (i : grid0.Coords) : Fin 4 → Nat :=
  let c1 : Index := 1#32
  let arg0 : BitVec 32 := BitVec.ofNat 32 (i 0).val
  let v45 : Index := Scalar.indexCast arg0
  let c0_36 : Index := 0#32
  let c0_37 : Index := 0#32
  ![1, v45.toNat, 0, 0]
def k0_off4 (i : grid0.Coords) : Fin 4 → Nat :=
  let c2 : Index := 2#32
  let arg0 : BitVec 32 := BitVec.ofNat 32 (i 0).val
  let v63 : Index := Scalar.indexCast arg0
  let c0_49 : Index := 0#32
  let c0_50 : Index := 0#32
  ![2, v63.toNat, 0, 0]
def k0_off5 (i : grid0.Coords) : Fin 4 → Nat :=
  let c3 : Index := 3#32
  let arg0 : BitVec 32 := BitVec.ofNat 32 (i 0).val
  let v81 : Index := Scalar.indexCast arg0
  let c0_61 : Index := 0#32
  let c0_62 : Index := 0#32
  ![3, v81.toNat, 0, 0]
def k0_off6 (i : grid0.Coords) : Fin 4 → Nat :=
  let c4 : Index := 4#32
  let arg0 : BitVec 32 := BitVec.ofNat 32 (i 0).val
  let v99 : Index := Scalar.indexCast arg0
  let c0_73 : Index := 0#32
  let c0_74 : Index := 0#32
  ![4, v99.toNat, 0, 0]
def k0_off7 (i : grid0.Coords) : Fin 4 → Nat :=
  let c5 : Index := 5#32
  let arg0 : BitVec 32 := BitVec.ofNat 32 (i 0).val
  let v117 : Index := Scalar.indexCast arg0
  let c0_85 : Index := 0#32
  let c0_86 : Index := 0#32
  ![5, v117.toNat, 0, 0]
def k0_off8 (i : grid0.Coords) : Fin 4 → Nat :=
  let c6 : Index := 6#32
  let arg0 : BitVec 32 := BitVec.ofNat 32 (i 0).val
  let v135 : Index := Scalar.indexCast arg0
  let c0_97 : Index := 0#32
  let c0_98 : Index := 0#32
  ![6, v135.toNat, 0, 0]
def k0_off9 (i : grid0.Coords) : Fin 4 → Nat :=
  let c7 : Index := 7#32
  let arg0 : BitVec 32 := BitVec.ofNat 32 (i 0).val
  let v153 : Index := Scalar.indexCast arg0
  let c0_109 : Index := 0#32
  let c0_110 : Index := 0#32
  ![7, v153.toNat, 0, 0]
def k0_off10 (i : grid0.Coords) : Fin 4 → Nat :=
  let c8 : Index := 8#32
  let arg0 : BitVec 32 := BitVec.ofNat 32 (i 0).val
  let v171 : Index := Scalar.indexCast arg0
  let c0_121 : Index := 0#32
  let c0_122 : Index := 0#32
  ![8, v171.toNat, 0, 0]
def k0_off11 (i : grid0.Coords) : Fin 4 → Nat :=
  let c9 : Index := 9#32
  let arg0 : BitVec 32 := BitVec.ofNat 32 (i 0).val
  let v189 : Index := Scalar.indexCast arg0
  let c0_133 : Index := 0#32
  let c0_134 : Index := 0#32
  ![9, v189.toNat, 0, 0]
def k0_off12 (i : grid0.Coords) : Fin 4 → Nat :=
  let c10 : Index := 10#32
  let arg0 : BitVec 32 := BitVec.ofNat 32 (i 0).val
  let v207 : Index := Scalar.indexCast arg0
  let c0_145 : Index := 0#32
  let c0_146 : Index := 0#32
  ![10, v207.toNat, 0, 0]
def k0_off13 (i : grid0.Coords) : Fin 4 → Nat :=
  let c11 : Index := 11#32
  let arg0 : BitVec 32 := BitVec.ofNat 32 (i 0).val
  let v225 : Index := Scalar.indexCast arg0
  let c0_157 : Index := 0#32
  let c0_158 : Index := 0#32
  ![11, v225.toNat, 0, 0]
def k0_off14 (i : grid0.Coords) : Fin 4 → Nat :=
  let c12 : Index := 12#32
  let arg0 : BitVec 32 := BitVec.ofNat 32 (i 0).val
  let v243 : Index := Scalar.indexCast arg0
  let c0_169 : Index := 0#32
  let c0_170 : Index := 0#32
  ![12, v243.toNat, 0, 0]
def k0_off15 (i : grid0.Coords) : Fin 4 → Nat :=
  let c13 : Index := 13#32
  let arg0 : BitVec 32 := BitVec.ofNat 32 (i 0).val
  let v261 : Index := Scalar.indexCast arg0
  let c0_181 : Index := 0#32
  let c0_182 : Index := 0#32
  ![13, v261.toNat, 0, 0]
def k0_off16 (i : grid0.Coords) : Fin 4 → Nat :=
  let c14 : Index := 14#32
  let arg0 : BitVec 32 := BitVec.ofNat 32 (i 0).val
  let v279 : Index := Scalar.indexCast arg0
  let c0_193 : Index := 0#32
  let c0_194 : Index := 0#32
  ![14, v279.toNat, 0, 0]
def k0_off17 (i : grid0.Coords) : Fin 4 → Nat :=
  let c15 : Index := 15#32
  let arg0 : BitVec 32 := BitVec.ofNat 32 (i 0).val
  let v297 : Index := Scalar.indexCast arg0
  let c0_205 : Index := 0#32
  let c0_206 : Index := 0#32
  ![15, v297.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x8x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x8x8x128 : Shape := ⟨4, ![16, 8, 8, 128]⟩
abbrev S8x8x4096x128 : Shape := ⟨4, ![8, 8, 4096, 128]⟩
abbrev S_ : Shape := ⟨0, ![]⟩
abbrev S8x8x16x128 : Shape := ⟨4, ![8, 8, 16, 128]⟩

abbrev nBuf : Space → Nat
  | .hbm => 25
  | .vmem => 0
  | .smem => 0
  | _ => 0

abbrev bufTy : (tb : Table) → Fin (tcTables nBuf tb) → BufTy
  | .hbm, ⟨0, _⟩ => ⟨S16x8x8x128, .f32⟩
  | .hbm, ⟨1, _⟩ => ⟨S16x8x8x128, .f32⟩
  | .hbm, ⟨2, _⟩ => ⟨S8x8x4096x128, .f32⟩
  | .hbm, ⟨3, _⟩ => ⟨S8x8x4096x128, .f32⟩
  | .hbm, ⟨4, _⟩ => ⟨S_, .i32⟩
  | .hbm, ⟨5, _⟩ => ⟨S8x8x16x128, .f32⟩
  | .hbm, ⟨6, _⟩ => ⟨S8x8x16x128, .f32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S8x8x4096x128, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S8x8x4096x128, .f32⟩
  | _, _ => ⟨S16x8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_v5 : Ref sig .tc := ⟨.hbm, 15, rfl⟩
abbrev main_c_4 : Ref sig .tc := ⟨.hbm, 16, rfl⟩
abbrev main_v6 : Ref sig .tc := ⟨.hbm, 17, rfl⟩
abbrev main_c_5 : Ref sig .tc := ⟨.hbm, 18, rfl⟩
abbrev main_v7 : Ref sig .tc := ⟨.hbm, 19, rfl⟩
abbrev main_v8 : Ref sig .tc := ⟨.hbm, 20, rfl⟩
abbrev main_c_6 : Ref sig .tc := ⟨.hbm, 21, rfl⟩
abbrev main_c_7 : Ref sig .tc := ⟨.hbm, 22, rfl⟩
abbrev main_c_8 : Ref sig .tc := ⟨.hbm, 23, rfl⟩
abbrev main_v9 : Ref sig .tc := ⟨.hbm, 24, rfl⟩

abbrev nD : Nat := 1
abbrev τ : Topo := Topo.v7x

variable {F : FTy → Type} [FloatOps F]
-- ==== Proof.Words.lean ====
/- What the words of the kernel say about the write offset: which chunk of the sequence it falls in, and at which row of that chunk
   each of the sixteen stores lands. -/
module

public import proofs.«01_k».proof.Proof.Gen.Kernel
public import Idealize.ShloMosaic.Lib.WordCmp

@[expose] public section

noncomputable section

namespace Cert.Proof.Words

open Cert.Kernel Cert.Kernel.Gen
open Idealize.ShloMosaic

/-- The write offset `w` is a position of the sequence, and the sixteen rows written from it stay inside one chunk of 1024. -/
def InChunk (w : BitVec 32) : Prop := w.toNat < 4096 ∧ w.toNat % 1024 ≤ 1008

/-- The chunk the kernel finds for an offset: a division by 1024 that truncates, lowered by one where the signs differ and the
    division leaves a remainder. -/
def chunkWord (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 1024#32 0#32)) (Scalar.extui (Scalar.cmpi .slt 1024#32 0#32))))
      (Scalar.cmpi .ne (Scalar.remsi v 1024#32) 0#32))
    (Scalar.subi (Scalar.divsi v 1024#32) 1#32) (Scalar.divsi v 1024#32)

/-- On a position of the sequence it is the quotient by 1024. -/
theorem chunkWord_ofNat : ∀ n : Fin 4096, chunkWord (BitVec.ofNat 32 n.val) = BitVec.ofNat 32 (n.val / 1024) := by
  decide +kernel

/-- Comparing a chunk number with that quotient, as the kernel does. -/
theorem chunk_compare : ∀ j q : Fin 4,
    Scalar.cmpi .ne (Scalar.extui (Scalar.cmpi .eq (BitVec.ofNat 32 j.val) (BitVec.ofNat 32 q.val)) : BitVec 32) 0#32 = 1#1
      ↔ j.val = q.val := by
  decide +kernel

/-- The kernel takes its update branch exactly at the chunk the offset falls in. -/
theorem cond_iff (i : grid0.Coords) (w : BitVec 32) (hw : w.toNat < 4096) : k0_cond1 i w = 1#1 ↔ (i 1).val = w.toNat / 1024 := by
  have hq := chunkWord_ofNat ⟨w.toNat, hw⟩
  simp only [BitVec.ofNat_toNat, BitVec.setWidth_eq] at hq
  have hc := chunk_compare (i 1) ⟨w.toNat / 1024, by omega⟩
  dsimp only at hc
  rw [← hq] at hc
  exact hc

/-- The row of the chunk that the store number `r` writes, as a word, where the update branch is taken. -/
theorem row_toNat (i : grid0.Coords) (w : BitVec 32) (hw : InChunk w) (hi : (i 1).val = w.toNat / 1024) (r : Fin 16) :
    (Scalar.indexCast (Scalar.addi (Scalar.subi w (Scalar.muli (BitVec.ofNat 32 (i 1).val) 1024#32)) (BitVec.ofNat 32 r.val))).toNat
      = w.toNat % 1024 + r.val := by
  obtain ⟨h1, h2⟩ := hw
  have hr := r.isLt
  have hj : (i 1).val < 4 := (i 1).isLt
  show (w - BitVec.ofNat 32 (i 1).val * 1024#32 + BitVec.ofNat 32 r.val).toNat = _
  simp only [BitVec.toNat_add, BitVec.toNat_sub, BitVec.toNat_mul, BitVec.toNat_ofNat]
  omega

/-- Where the store number `r` lands: the whole of the batch, one row, all 128 lanes. -/
theorem off_eq (i : grid0.Coords) (w : BitVec 32) (hw : InChunk w) (hi : (i 1).val = w.toNat / 1024) (r : Fin 16) :
    k0_off2 i w (BitVec.ofNat 32 r.val) = ![0, 0, w.toNat % 1024 + r.val, 0] := by
  rw [← row_toNat i w hw hi r]
  rfl

/-- The side condition the kernel assumes of the offset it reads: every row it writes is inside the chunk. -/
theorem chk (i : grid0.Coords) (w : BitVec 32) (hw : InChunk w) : k0_chk1 i w := by
  intro h1 r a
  have hi := (cond_iff i w hw.1).mp h1
  have hr := r.isLt
  have h2 := hw.2
  rw [off_eq i w hw hi r]
  fin_cases a
  · show 0 + 8 ≤ 8; omega
  · show 0 + 1 ≤ 1; omega
  · show w.toNat % 1024 + r.val + 1 ≤ 1024; omega
  · show 0 + 128 ≤ 128; omega

end Cert.Proof.Words

end
-- ==== Proof.Block.lean ====
/- What one grid point leaves in an output block: the block of the cache it copied, with the rows of the update that fall in it laid
   over, whatever the kernel's sixteen row stores are called. -/
module

public import proofs.«01_k».proof.Proof.Words
public import proofs.«01_k».proof.Proof.Gen.Kernel.Frame
public import Idealize.ShloMosaic.Lib.Tactic
public import Idealize.ShloMosaic.Lib.Pointwise
public import Idealize.ShloMosaic.Lib.VecWindow

@[expose] public section

set_option maxRecDepth 16384

noncomputable section

namespace Cert.Proof.Block

open Cert.Kernel Cert.Kernel.Gen Cert.Proof.Words
open Idealize.ShloMosaic

variable {F : FTy → Type}

/-- The output block of head `i 0` and chunk `i 1`: at a position of the sequence among the sixteen from `n`, the row of the update for
    that position, that batch entry and that head; elsewhere what the cache block `k` held. -/
def updated (i : grid0.Coords) (n : ℕ) (x : Vec F S16x8x8x128 .f32) (k : Vec F S8x1x1024x128 .f32) : Vec F S8x1x1024x128 .f32 := fun y =>
  if h : n ≤ 1024 * (i 1).val + (y 2).val ∧ 1024 * (i 1).val + (y 2).val < n + 16 then
    x (ix4 (n0 := 16) (n1 := 8) (n2 := 8) (n3 := 128) ⟨1024 * (i 1).val + (y 2).val - n, by omega⟩ (i 0) (y 0) (y 3))
  else k y

/-- At the position of row `r` of the update. -/
theorem updated_at (i : grid0.Coords) (n : ℕ) (x : Vec F S16x8x8x128 .f32) (k : Vec F S8x1x1024x128 .f32) (y : S8x1x1024x128.Idx)
    (r : Fin 16) (hr : 1024 * (i 1).val + (y 2).val = n + r.val) :
    updated i n x k y = x (ix4 (n0 := 16) (n1 := 8) (n2 := 8) (n3 := 128) r (i 0) (y 0) (y 3)) := by
  have := r.isLt
  unfold updated
  rw [dif_pos (by omega)]
  congr 2
  exact Fin.ext (by show _ - n = r.val; omega)

/-- At a position outside the update. -/
theorem updated_off (i : grid0.Coords) (n : ℕ) (x : Vec F S16x8x8x128 .f32) (k : Vec F S8x1x1024x128 .f32) (y : S8x1x1024x128.Idx)
    (h : ¬ (n ≤ 1024 * (i 1).val + (y 2).val ∧ 1024 * (i 1).val + (y 2).val < n + 16)) : updated i n x k y = k y := dif_neg h

/-- Away from the offset's chunk nothing is laid over: the block is the copy. -/
theorem updated_other (i : grid0.Coords) (w : BitVec 32) (hw : InChunk w) (hi : (i 1).val ≠ w.toNat / 1024) (x : Vec F S16x8x8x128 .f32)
    (k : Vec F S8x1x1024x128 .f32) : updated i w.toNat x k = k := by
  funext y
  obtain ⟨h1, h2⟩ := hw
  have hy : (y 2).val < 1024 := (y 2).isLt
  exact dif_neg (by omega)

/-! ## One row -/

/-- Where the row number `s` of the update sits in the update's array, for the grid point's head. -/
def srcOff (i : grid0.Coords) (s : Fin 16) : Fin 4 → ℕ := ![s.val, (Scalar.indexCast (BitVec.ofNat 32 (i 0).val)).toNat, 0, 0]

/-- The head of the grid point, made a word and read back. -/
theorem head_toNat (i : grid0.Coords) : (Scalar.indexCast (BitVec.ofNat 32 (i 0).val)).toNat = (i 0).val := by
  have hi : (i 0).val < 8 := (i 0).isLt
  show (BitVec.ofNat 32 (i 0).val).toNat = _
  rw [BitVec.toNat_ofNat]
  omega

/-- One row of one head, from there, lies inside the update's array. -/
theorem srcOff_inb (i : grid0.Coords) (s : Fin 16) : ∀ a, srcOff i s a + S1x1x8x128.size a ≤ S16x8x8x128.size a := by
  have hi : (i 0).val < 8 := (i 0).isLt
  have hs := s.isLt
  have hv := head_toNat i
  intro a
  unfold srcOff
  rw [hv]
  fin_cases a
  · show s.val + 1 ≤ 16; omega
  · show (i 0).val + 1 ≤ 8; omega
  · show 0 + 8 ≤ 8; omega
  · show 0 + 128 ≤ 128; omega

/-- The row number `s` of the update, loaded and reshaped to the shape the kernel stores. -/
def row (i : grid0.Coords) (M : Memref sig .tc .vmem S16x8x8x128 .f32) (h : M.IsWhole) (x : Vec F S16x8x8x128 .f32) (s : Fin 16) :
    Vec F S8x1x1x128 .f32 :=
  shapeCast S8x1x1x128 (shapeCast S8x1x128 (shapeCast S8x128
    (M.view.readAt (Elt F) (Rect.unit (s := S16x8x8x128) (srcOff i s) S1x1x8x128.size (srcOff_inb i s)).toLoadRect (h.unread x))
    shapeCasts_S1x1x8x128_S8x128) shapeCasts_S8x128_S8x1x128) shapeCasts_S8x1x128_S8x1x1x128

/-- The reshapes move nothing: batch entry `b`, lane `d`. -/
theorem casts_apply (v : Vec F S1x1x8x128 .f32) (b : Fin 8) (d : Fin 128) :
    shapeCast S8x1x1x128 (shapeCast S8x1x128 (shapeCast S8x128 v shapeCasts_S1x1x8x128_S8x128) shapeCasts_S8x128_S8x1x128)
      shapeCasts_S8x1x128_S8x1x1x128 (ix4 (n0 := 8) (n1 := 1) (n2 := 1) (n3 := 128) b 0 0 d)
      = v (ix4 (n0 := 1) (n1 := 1) (n2 := 8) (n3 := 128) 0 0 b d) := by
  pointwise

/-- The row, at an element of the stored shape: the update at that row, the grid point's head, that batch entry and lane. -/
theorem row_apply (i : grid0.Coords) (M : Memref sig .tc .vmem S16x8x8x128 .f32) (h : M.IsWhole) (x : Vec F S16x8x8x128 .f32) (s : Fin 16)
    (k : S8x1x1x128.Idx) : row i M h x s k = x (ix4 (n0 := 16) (n1 := 8) (n2 := 8) (n3 := 128) s (i 0) (k 0) (k 3)) := by
  have hk : k = ix4 (n0 := 8) (n1 := 1) (n2 := 1) (n3 := 128) (k 0) 0 0 (k 3) := by
    idx_vars k
    rw [Subsingleton.elim k1 0, Subsingleton.elim k2 0]
  unfold row
  rw [hk]
  refine (casts_apply _ (k 0) (k 3)).trans ?_
  rw [View.readAt_apply, h.read_unread]
  congr 1
  funext a
  have hv : (Scalar.indexCast (BitVec.ofNat 32 (i 0).val)).toNat = (i 0).val := head_toNat i
  apply Fin.ext
  fin_cases a
  · show s.val + 1 * 0 = s.val; omega
  · show (Scalar.indexCast (BitVec.ofNat 32 (i 0).val)).toNat + 1 * 0 = (i 0).val; omega
  · show 0 + 1 * (k 0).val = (k 0).val; omega
  · show 0 + 1 * (k 3).val = (k 3).val; omega

/-- The store of the row number `s`. -/
def piece (i : grid0.Coords) (w : BitVec 32) (hc : k0_cond1 i w = 1#1) (hchk : k0_chk1 i w) (M : Memref sig .tc .vmem S16x8x8x128 .f32)
    (h : M.IsWhole) (x : Vec F S16x8x8x128 .f32) (s : Fin 16) : View.Piece (Elt F) S8x1x1024x128 .f32 :=
  ⟨Rect.unit (s := S8x1x1024x128) (k0_off2 i w (BitVec.ofNat 32 s.val)) S8x1x1x128.size (k0_off2_inb i w hchk hc s), row i M h x s⟩

/-- The copy of the cache block. -/
def base (M : Memref sig .tc .vmem S8x1x1024x128 .f32) (h : M.IsWhole) (k : Vec F S8x1x1024x128 .f32) :
    View.Piece (Elt F) S8x1x1024x128 .f32 :=
  ⟨Rect.unit (s := S8x1x1024x128) ![0, 0, 0, 0] S8x1x1024x128.size inb_S8x1x1024x128_S8x1x1024x128_0_0_0_0,
    M.view.readAt (Elt F) (Rect.unit (s := S8x1x1024x128) ![0, 0, 0, 0] S8x1x1024x128.size inb_S8x1x1024x128_S8x1x1024x128_0_0_0_0).toLoadRect (h.unread k)⟩

/-- Every store of a grid point into one output block, the last first. -/
def pieces (i : grid0.Coords) (w : BitVec 32) (hc : k0_cond1 i w = 1#1) (hchk : k0_chk1 i w) (M : Memref sig .tc .vmem S16x8x8x128 .f32)
    (h : M.IsWhole) (x : Vec F S16x8x8x128 .f32) (M' : Memref sig .tc .vmem S8x1x1024x128 .f32) (h' : M'.IsWhole)
    (k : Vec F S8x1x1024x128 .f32) : List (View.Piece (Elt F) S8x1x1024x128 .f32) :=
  (List.ofFn fun s : Fin 16 => piece i w hc hchk M h x s.rev) ++ [base M' h' k]

/-- The copy alone leaves the cache block. -/
theorem read_base (V : Memref sig .tc .vmem S8x1x1024x128 .f32) (f : V.view.ty.Contents (Elt F)) (M : Memref sig .tc .vmem S8x1x1024x128 .f32)
    (h : M.IsWhole) (k : Vec F S8x1x1024x128 .f32) : V.view.read (Elt F) (V.view.writes (Elt F) f [base M h k]) = k := by
  unfold base
  rw [View.read_writes_full, View.readAt_full, h.read_unread]

/-- All the stores of the offset's chunk leave the updated block. -/
theorem read_pieces (V : Memref sig .tc .vmem S8x1x1024x128 .f32) (f : V.view.ty.Contents (Elt F)) (i : grid0.Coords) (w : BitVec 32)
    (hw : InChunk w) (hc : k0_cond1 i w = 1#1) (hchk : k0_chk1 i w) (M : Memref sig .tc .vmem S16x8x8x128 .f32)
    (h : M.IsWhole) (x : Vec F S16x8x8x128 .f32) (M' : Memref sig .tc .vmem S8x1x1024x128 .f32) (h' : M'.IsWhole)
    (k : Vec F S8x1x1024x128 .f32) :
    V.view.read (Elt F) (V.view.writes (Elt F) f (pieces i w hc hchk M h x M' h' k)) = updated i w.toNat x k := by
  have hi := (cond_iff i w hw.1).mp hc
  obtain ⟨hw1, hw2⟩ := id hw
  unfold pieces
  rw [View.writes_append]
  funext y
  by_cases hy : ∃ p ∈ (List.ofFn fun s : Fin 16 => piece i w hc hchk M h x s.rev), y ∈ p.1.set
  · refine View.read_writes_apply_of_pieces _ _ _ _ (fun p hp z => ?_) y hy
    obtain ⟨s, rfl⟩ := List.mem_ofFn.mp hp
    generalize s.rev = r
    refine (row_apply i M h x r z).trans ?_
    have e := off_eq i w hw hi r
    have hr := r.isLt
    have z2 : (z 2).val = 0 := by have : (z 2).val < 1 := (z 2).isLt; omega
    have e0 : ((piece i w hc hchk M h x r).1.emb z 0).val = (z 0).val := by
      show k0_off2 i w (BitVec.ofNat 32 r.val) 0 + 1 * (z 0).val = _
      rw [e]; show 0 + 1 * (z 0).val = _; omega
    have e2 : ((piece i w hc hchk M h x r).1.emb z 2).val = w.toNat % 1024 + r.val := by
      show k0_off2 i w (BitVec.ofNat 32 r.val) 2 + 1 * (z 2).val = _
      rw [e, z2]; rfl
    have e3 : ((piece i w hc hchk M h x r).1.emb z 3).val = (z 3).val := by
      show k0_off2 i w (BitVec.ofNat 32 r.val) 3 + 1 * (z 3).val = _
      rw [e]; show 0 + 1 * (z 3).val = _; omega
    refine Eq.trans (congrArg x ((ix4_inj ..).2 ⟨rfl, rfl, Fin.ext e0.symm, Fin.ext e3.symm⟩)) (updated_at i w.toNat x k _ r ?_).symm
    rw [e2]; omega
  · rw [View.read_writes_apply_of_forall_not_mem _ _ _ _ (fun p hp hm => hy ⟨p, hp, hm⟩), read_base]
    symm
    refine updated_off i w.toNat x k y fun hr => hy ?_
    have h2 : (y 2).val < 1024 := (y 2).isLt
    obtain ⟨r, hrv⟩ : ∃ r : Fin 16, r.val = (y 2).val - w.toNat % 1024 := ⟨⟨(y 2).val - w.toNat % 1024, by omega⟩, rfl⟩
    refine ⟨piece i w hc hchk M h x r, List.mem_ofFn.mpr ⟨r.rev, by rw [Fin.rev_rev]⟩, ?_⟩
    refine (Rect.mem_set_unit (inb := k0_off2_inb i w hchk hc r)).mpr fun a => ?_
    rw [off_eq i w hw hi]
    have h0 : (y 0).val < 8 := (y 0).isLt
    have h1 : (y 1).val < 1 := (y 1).isLt
    have h3 : (y 3).val < 128 := (y 3).isLt
    fin_cases a
    · show 0 ≤ (y 0).val ∧ (y 0).val < 0 + 8; omega
    · show 0 ≤ (y 1).val ∧ (y 1).val < 0 + 1; omega
    · show w.toNat % 1024 + r.val ≤ (y 2).val ∧ (y 2).val < w.toNat % 1024 + r.val + 1; omega
    · show 0 ≤ (y 3).val ∧ (y 3).val < 0 + 128; omega

end Cert.Proof.Block

end
-- ==== Proof.Body.lean ====
/- The run of the kernel's body at one grid point: the two cache blocks are copied to the output blocks, and at the offset's chunk the
   sixteen rows of each update are stored over the copies. -/
module

public import proofs.«01_k».proof.Proof.Gen.Kernel.Frame
public import proofs.«01_k».proof.Proof.Block
public import Idealize.ShloMosaic.Lib.Tactic

@[expose] public section

noncomputable section

namespace Cert.Proof.Body

open Cert.Kernel Cert.Kernel.Gen Cert.Proof.Words Cert.Proof.Block
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

/-- One grid point, run. Given the offset word, the two updates, the two cache blocks and any contents of the two output blocks, it ends with
    the inputs as they were and each output block at the updated cache block (`updated`). The offset keeps the update inside one chunk, which
    is what lets every row store of the branch land inside the block. -/
theorem body_run (c : Dev nD) (i : grid0.Coords) (M2 : Memref sig .tc .smem S1 .i32) (h2 : M2.IsWhole)
    (M3 : Memref sig .tc .vmem S16x8x8x128 .f32) (h3 : M3.IsWhole) (M4 : Memref sig .tc .vmem S16x8x8x128 .f32) (h4 : M4.IsWhole)
    (M5 : Memref sig .tc .vmem S8x1x1024x128 .f32) (h5 : M5.IsWhole) (M6 : Memref sig .tc .vmem S8x1x1024x128 .f32) (h6 : M6.IsWhole)
    (M7 : Memref sig .tc .vmem S8x1x1024x128 .f32) (h7 : M7.IsWhole) (M8 : Memref sig .tc .vmem S8x1x1024x128 .f32) (h8 : M8.IsWhole)
    (w : BitVec 32) (hw : InChunk w) (xk xv : Vec F S16x8x8x128 .f32) (kp vp : Vec F S8x1x1024x128 .f32)
    (E : Set ℕ) (K : PUnit → sProp 𝕄) :
    iprop(owns (c : Thread nD τ) M2 fullShare (fun _ => w) ∗ owns (c : Thread nD τ) M3 fullShare xk ∗ owns (c : Thread nD τ) M4 fullShare xv
        ∗ owns (c : Thread nD τ) M5 fullShare kp ∗ owns (c : Thread nD τ) M6 fullShare vp
        ∗ (∃ d, owns (c : Thread nD τ) M7 fullShare d) ∗ (∃ d, owns (c : Thread nD τ) M8 fullShare d)
        ∗ (iprop(owns (c : Thread nD τ) M2 fullShare (fun _ => w) ∗ owns (c : Thread nD τ) M3 fullShare xk ∗ owns (c : Thread nD τ) M4 fullShare xv
            ∗ owns (c : Thread nD τ) M5 fullShare kp ∗ owns (c : Thread nD τ) M6 fullShare vp
            ∗ owns (c : Thread nD τ) M7 fullShare (updated i w.toNat xk kp) ∗ owns (c : Thread nD τ) M8 fullShare (updated i w.toNat xv vp)) -∗ K ⟨⟩))
      ⊢ wp frame (wpE (defs₀ (F := F)) Variants.none c none) E (cc0__body i M2 h2 M3 h3 M4 h4 M5 h5 M6 h6 M7 h7 M8 h8) K := by
  have hchk := chk i w hw
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := h2.eq_unread hf2; obtain rfl := h3.eq_unread hf3; obtain rfl := h4.eq_unread hf4
  obtain rfl := h5.eq_unread hf5; obtain rfl := h6.eq_unread hf6
  sl_unfold [cc0__body]
  sl_exec!
  have hr : body_run.sl.r (F := F) c M2 h2 w = w := by
    unfold body_run.sl.r
    rw [View.readAt_apply, h2.read_unread]
  rw [hr]
  by_cases hc : k0_cond1 i w = 1#1
  all_goals
    sl_exec!
    sl_step
    iapply Hk
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
  · isplitl [H7]
    · iexists _; isplitr; swap; (· iexact H7); ipureintro
      exact read_pieces M7 M7.view.junk i w hw hc hchk M3 h3 xk M5 h5 kp
    · iexists _; isplitr; swap; (· iexact H8); ipureintro
      exact read_pieces M8 M8.view.junk i w hw hc hchk M4 h4 xv M6 h6 vp
  · have hi := fun h => hc ((cond_iff i w hw.1).mpr h)
    rw [updated_other i w hw hi, updated_other i w hw hi]
    isplitl [H7]
    · iexists _; isplitr; swap; (· iexact H7); ipureintro
      exact read_base M7 M7.view.junk M5 h5 kp
    · iexists _; isplitr; swap; (· iexact H8); ipureintro
      exact read_base M8 M8.view.junk M6 h6 vp

end Cert.Proof.Body

end
-- ==== Proof.Whole.lean ====
/- What a result array holds: the cache with the sixteen rows of the update laid over it; and that each grid point's block is the part of
   that array at the block's place. -/
module

public import proofs.«01_k».proof.Proof.Block

@[expose] public section

set_option maxRecDepth 16384

noncomputable section

namespace Cert.Proof.Whole

open Cert.Kernel Cert.Proof.Block
open Idealize.ShloMosaic

variable {F : FTy → Type}

/-- The whole cache `k` with the sixteen rows `x` of the update laid over it from position `n`: `x` has its axes in the order
    position, head, batch, lane; the cache in the order batch, head, position, lane. -/
def whole (n : ℕ) (x : Vec F S16x8x8x128 .f32) (k : Vec F S8x8x4096x128 .f32) : Vec F S8x8x4096x128 .f32 := fun z =>
  if h : n ≤ (z 2).val ∧ (z 2).val < n + 16 then
    x (ix4 (n0 := 16) (n1 := 8) (n2 := 8) (n3 := 128) ⟨(z 2).val - n, by omega⟩ (z 1) (z 0) (z 3))
  else k z

/-- Where the element `y` of the block of head `i 0` and chunk `i 1` sits in its array. -/
def place (i : grid0.Coords) (y : S8x1x1024x128.Idx) : S8x8x4096x128.Idx :=
  ix4 (n0 := 8) (n1 := 8) (n2 := 4096) (n3 := 128) (y 0) (i 0)
    ⟨1024 * (i 1).val + (y 2).val, by
      have h1 : (i 1).val < 4 := (i 1).isLt
      have h2 : (y 2).val < 1024 := (y 2).isLt
      omega⟩ (y 3)

/-- A block of the cache, with the update laid over it, is the block of the cache with the update laid over it. -/
theorem updated_place (i : grid0.Coords) (n : ℕ) (x : Vec F S16x8x8x128 .f32) (k : Vec F S8x8x4096x128 .f32) (y : S8x1x1024x128.Idx) :
    updated i n x (fun y => k (place i y)) y = whole n x k (place i y) := rfl

end Cert.Proof.Whole

end
-- ==== Proof.Run.lean ====
/- The run of the whole kernel: every grid point leaves its two output blocks as the updated cache blocks, so each result array is the
   cache with the sixteen rows of the update laid over it. -/
module

public import proofs.«01_k».proof.Proof.Body
public import proofs.«01_k».proof.Proof.Whole
public import Idealize.ShloMosaic.Lib.Pipeline.ValueKit

@[expose] public section

set_option maxRecDepth 16384

noncomputable section

namespace Cert.Proof.Run

open Cert.Kernel Cert.Kernel.Gen Cert.Proof.Words Cert.Proof.Block Cert.Proof.Whole
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-- The write offset: the one element of the kernel's last argument. -/
def offset (c : Dev nD) : BitVec 32 := (m ((c : Thread nD τ).loc main_arg4) : Vec F S_ .i32) (Shape.Idx.first (s := S_) (by decide))

/-! ## The input blocks -/

/-- The launch's one-element offset array holds the offset. -/
theorem V_offset (c : Dev nD) : V m c main_v0 = fun _ => offset m c := by
  unfold V
  after_results
  funext i
  exact congrArg (m ((c : Thread nD τ).loc main_arg4) : Vec F S_ .i32) (funext fun a => a.elim0)

/-- Where the windows of every grid point sit in their arrays. -/
theorem idx (t : Fin cfg0.N) : win0_1.index t = ![0, 0, 0, 0] ∧ win0_2.index t = ![0, 0, 0, 0]
    ∧ win0_3.index t = ![0, (grid0.coords t 0).val, (grid0.coords t 1).val, 0] ∧ win0_4.index t = ![0, (grid0.coords t 0).val, (grid0.coords t 1).val, 0]
    ∧ win0_5.index t = ![0, (grid0.coords t 0).val, (grid0.coords t 1).val, 0] ∧ win0_6.index t = ![0, (grid0.coords t 0).val, (grid0.coords t 1).val, 0] :=
  (by decide +kernel : ∀ t : Fin grid0.N, win0_1.index t = ![0, 0, 0, 0] ∧ win0_2.index t = ![0, 0, 0, 0]
    ∧ win0_3.index t = ![0, (grid0.coords t 0).val, (grid0.coords t 1).val, 0] ∧ win0_4.index t = ![0, (grid0.coords t 0).val, (grid0.coords t 1).val, 0]
    ∧ win0_5.index t = ![0, (grid0.coords t 0).val, (grid0.coords t 1).val, 0] ∧ win0_6.index t = ![0, (grid0.coords t 0).val, (grid0.coords t 1).val, 0]) t

/-- Every grid point reads the offset. -/
theorem iblk_0 (c : Dev nD) (t : Fin cfg0.N) : iblk m c 0 t = fun _ => offset m c := by
  funext y
  exact congrFun (V_offset m c) _

/-- Every grid point reads the whole key update. -/
theorem iblk_1 (c : Dev nD) (t : Fin cfg0.N) : iblk m c 1 t = m ((c : Thread nD τ).loc main_arg0) := by
  funext y
  show V m c main_arg0 _ = _
  rw [V_main_arg0]
  congr 1
  blk_ext [idx t]

/-- Every grid point reads the whole value update. -/
theorem iblk_2 (c : Dev nD) (t : Fin cfg0.N) : iblk m c 2 t = m ((c : Thread nD τ).loc main_arg1) := by
  funext y
  show V m c main_arg1 _ = _
  rw [V_main_arg1]
  congr 1
  blk_ext [idx t]

/-- The key cache's block of a grid point, read at its places in the array. -/
theorem iblk_3 (c : Dev nD) (t : Fin cfg0.N) :
    iblk m c 3 t = fun y => m ((c : Thread nD τ).loc main_arg2) (place (grid0.coords t) y) := by
  funext y
  show V m c main_arg2 _ = _
  rw [V_main_arg2]
  congr 1
  unfold place
  blk_ext [idx t]

/-- The value cache's block of a grid point, read at its places in the array. -/
theorem iblk_4 (c : Dev nD) (t : Fin cfg0.N) :
    iblk m c 4 t = fun y => m ((c : Thread nD τ).loc main_arg3) (place (grid0.coords t) y) := by
  funext y
  show V m c main_arg3 _ = _
  rw [V_main_arg3]
  congr 1
  unfold place
  blk_ext [idx t]

/-! ## The launch's proof data -/

/-- The arrays as the launch finds them; after a grid point each input buffer still at its block, each output buffer at the updated
    cache block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => updated (grid0.coords t) (offset m c).toNat (m ((c : Thread nD τ).loc main_arg0)) (iblk m c 3 t)
    | ⟨6, _⟩ => updated (grid0.coords t) (offset m c).toNat (m ((c : Thread nD τ).loc main_arg1)) (iblk m c 4 t)
  Φ _ := Pipeline.ΦA spec0 c
  q _ := fullShare
  owed _ := 0

/-- The arrays are as the launch finds them. -/
theorem A_eq (c : Dev nD) (w : Fin cfg0.W) : (dats m 0 c).A w = V m c (Pipeline.arrRef spec0 w) := rfl

/-- After a grid point the input buffers are still at their blocks. -/
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t :=
  ⟨rfl, rfl, rfl, rfl, rfl⟩

/-- After a grid point the first output buffer is the updated key cache block. -/
theorem after_5 (c : Dev nD) (t : Fin cfg0.N) : (dats m 0 c).after 5 t
    = updated (grid0.coords t) (offset m c).toNat (m ((c : Thread nD τ).loc main_arg0)) (iblk m c 3 t) := rfl

/-- After a grid point the second output buffer is the updated value cache block. -/
theorem after_6 (c : Dev nD) (t : Fin cfg0.N) : (dats m 0 c).after 6 t
    = updated (grid0.coords t) (offset m c).toNat (m ((c : Thread nD τ).loc main_arg1)) (iblk m c 4 t) := rfl

/-- Before a grid point the input buffers are at their blocks. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) :=
  ⟨before0_0_of m (dats m 0 c) (A_eq m c 0) (fun t => (after_in m c t).1) t,
    before0_1_of m (dats m 0 c) (A_eq m c 1) (fun t => (after_in m c t).2.1) t,
    before0_2_of m (dats m 0 c) (A_eq m c 2) (fun t => (after_in m c t).2.2.1) t,
    before0_3_of m (dats m 0 c) (A_eq m c 3) (fun t => (after_in m c t).2.2.2.1) t,
    before0_4_of m (dats m 0 c) (A_eq m c 4) (fun t => (after_in m c t).2.2.2.2) t⟩

/-- Every grid point meets its obligation, when the offset keeps the update inside one chunk. -/
theorem body_obligation (c : Dev nD) (hw : InChunk (offset m c)) :
    BodyObligation (dats (F := F) m 0 c) (defs₀ (F := F)) Variants.none () Set.univ := fun t => by
  obtain ⟨b0, b1, b2, b3, b4⟩ := before_in m c t
  obtain ⟨a0, a1, a2, a3, a4⟩ := after_in m c t
  rw [bigSep_W0, bigSep_W0]
  sl_whnfR [defs₀, Defs.onTc]
  simp only [b0, b1, b2, b3, b4]
  rw [show (dats m 0 c).Φ t.succ = (dats m 0 c).Φ t.castSucc from rfl,
    show (dats m 0 c).owesAt () t.succ = (dats m 0 c).owesAt () t.castSucc from rfl, a0, a1, a2, a3, a4, after_5, after_6,
    iblk_0, iblk_1, iblk_2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.body_run c (grid0.coords t) _ _ _ _ _ _ _ _ _ _ _ _ _ _ (offset m c) hw _ _ (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

-- the implicit arguments of the launch lemma are found by unfolding plain definitions in a metavariable's type
set_option backward.isDefEq.respectTransparency.types false in
/-- Every run ends, with each array as the proof data say and every semaphore at zero. -/
theorem run_main (hw : ∀ c, InChunk (offset m c)) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c (hw c)).loose) (hshare := fun c => (dats m 0 c).share_full fun _ => rfl)
    (howed := fun _ _ => rfl) (V := V m) (hmain := hmain m Variants.none) (hA := fun _ _ => rfl) (hΦ := fun _ _ => rfl)

/-! ## The result arrays -/

/-- The first result: the key cache with the key rows laid over it. -/
theorem final_5 (c : Dev nD) : (dats m 0 c).arrAt 5 (cfgs 0).N
    = whole (offset m c).toNat (m ((c : Thread nD τ).loc main_arg0)) (m ((c : Thread nD τ).loc main_arg2)) := by
  refine (dats m 0 c).arrAt_eq_of_covers 5 _ (by decide +kernel) fun t _ y => ?_
  blk_simp
  rw [after_5, iblk_3]
  refine (updated_place (grid0.coords t) _ _ _ y).trans (congrArg (whole _ _ _) ?_)
  unfold place
  blk_ext [idx t]

/-- The second result: the value cache with the value rows laid over it. -/
theorem final_6 (c : Dev nD) : (dats m 0 c).arrAt 6 (cfgs 0).N
    = whole (offset m c).toNat (m ((c : Thread nD τ).loc main_arg1)) (m ((c : Thread nD τ).loc main_arg3)) := by
  refine (dats m 0 c).arrAt_eq_of_covers 6 _ (by decide +kernel) fun t _ y => ?_
  blk_simp
  rw [after_6, iblk_4]
  refine (updated_place (grid0.coords t) _ _ _ y).trans (congrArg (whole _ _ _) ?_)
  unfold place
  blk_ext [idx t]

/-- What a final state owes: the two results laid over, the arguments as they were, every semaphore at zero. -/
def Post (r : PUnit × MemSt nD τ sig (Elt F)) : Prop :=
  (∀ c : Dev nD, r.2.mem ((c : Thread nD τ).loc main_v1_0)
        = whole (offset m c).toNat (m ((c : Thread nD τ).loc main_arg0)) (m ((c : Thread nD τ).loc main_arg2))
      ∧ r.2.mem ((c : Thread nD τ).loc main_v1_1)
        = whole (offset m c).toNat (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0

/-- Every run of the kernel ends so, when the offset keeps the update inside one chunk. -/
theorem run (hw : ∀ c, InChunk (offset m c)) : θ_run defs (onTc (τ := τ) (main (F := F))) ⟨m, fun _ => 0, ρ⟩ (Post m) := by
  refine (θ_run defs _ _).mono (fun r h => ⟨fun c => ?_, h.2⟩) (run_main m ρ hw)
  obtain ⟨h, -⟩ := h
  exact ⟨((h c).1 5).trans (final_5 m c), ((h c).1 6).trans (final_6 m c),
    ((h c).1 1).trans (((dats m 0 c).arrAt_in 1 rfl _).trans (V_main_arg0 m c)),
    ((h c).1 2).trans (((dats m 0 c).arrAt_in 2 rfl _).trans (V_main_arg1 m c)),
    ((h c).1 3).trans (((dats m 0 c).arrAt_in 3 rfl _).trans (V_main_arg2 m c)),
    ((h c).1 4).trans (((dats m 0 c).arrAt_in 4 rfl _).trans (V_main_arg3 m c)),
    ((h c).2 main_arg4 (Pipeline.mem_restRefs_of main_arg4 (by decide) (by decide))).trans (V_main_arg4 m c)⟩

end Cert.Proof.Run

end
-- ==== Proof.Same.lean ====
/- The idealized kernel is the kernel's own text: its body table and its main function are the kernel's, so its runs are too. -/
module

public import proofs.«01_k».proof.Proof.Run
public import proofs.«01_k».proof.Proof.Gen.KernelIdeal.Frame

@[expose] public section

set_option maxRecDepth 16384

noncomputable section

namespace Cert.Proof.Same

open Idealize.ShloMosaic Idealize.SL.Sem

variable {F : FTy → Type} [FloatOps F]

/-- The two programs' kernel bodies are one table. -/
theorem bodies : (@Cert.KernelIdeal.defs₀ F _) = (@Cert.Kernel.defs₀ F _) := by
  unfold Cert.KernelIdeal.defs₀ Cert.Kernel.defs₀
  refine congrArg (Defs.onTc (τ := Cert.Kernel.τ)) ?_
  funext ℓ a
  match ℓ, a with
  | 0, (t, s) => rfl
  | ⟨_ + 1, h⟩, _ => exact absurd h (Nat.not_lt.2 (Nat.le_add_left _ _))

/-- So are their tables with the launch added. -/
theorem tables : (@Cert.KernelIdeal.defs F _) = (@Cert.Kernel.defs F _) := by
  unfold Cert.KernelIdeal.defs Cert.Kernel.defs
  exact congrArg (Pipeline.defs Cert.Kernel.pcfgs) bodies

/-- The two main functions are one program. -/
theorem mains : (@Cert.KernelIdeal.main F _) = (@Cert.Kernel.main F _) := rfl

/-- Every run of the idealized kernel ends as the kernel's does. -/
theorem run (m : (ℓ : Loc Cert.KernelIdeal.nD Cert.KernelIdeal.τ Cert.KernelIdeal.sig) → Buf (Elt F) ℓ)
    (ρ : Dev Cert.KernelIdeal.nD → PrngReg) (hw : ∀ c, Words.InChunk (Run.offset (F := F) m c)) :
    θ_run (Cert.KernelIdeal.defs (F := F)) (onTc (τ := Cert.KernelIdeal.τ) (Cert.KernelIdeal.main (F := F))) ⟨m, fun _ => 0, ρ⟩
      (Run.Post (F := F) m) := by
  rw [tables, mains]
  exact Run.run m ρ hw

end Cert.Proof.Same

end
-- ==== Proof.Pre.lean ====
/- What the claims' precondition says of the offset word: it is a position of the sequence, and the sixteen rows from it stay inside one
   chunk. -/
module

public import proofs.«01_k».proof.Proof.Words
public import proofs.«01_k».proof.Proof.Gen.Pre_chunk_holds_update

@[expose] public section

noncomputable section

namespace Cert.Proof.Pre

open Idealize.ShloMosaic Idealize.ShloMosaic.WordCmp Cert.Pre_chunk_holds_update Cert.Proof.Words

/-- The remainder by 1024 that the precondition computes: the truncated one, moved up by 1024 where its sign is not the divisor's. -/
def remWord (w : BitVec 32) : BitVec 32 :=
  let d : BitVec 32 := Scalar.select (IntOp.cmpi .eq 1024#32 0#32) 1#32 1024#32
  let q : BitVec 32 := IntOp.remsi .host w d
  Scalar.select (IntOp.andi (IntOp.cmpi .ne (IntOp.cmpi .slt q 0#32) (IntOp.cmpi .slt d 0#32)) (IntOp.cmpi .ne q 0#32)) (IntOp.addi q d) q

/-- On a position of the sequence, comparing that remainder with 1008 compares the position's own remainder. -/
theorem rem_compare : ∀ n : Fin 4096, IntOp.cmpi .sle (remWord (BitVec.ofNat 32 n.val)) 1008#32 = 1#1 → n.val % 1024 ≤ 1008 := by
  decide +kernel

/-- A conjunction of two bits is one only when both are. -/
theorem both : ∀ a b : BitVec 1, IntOp.andi a b = 1#1 → a = 1#1 ∧ b = 1#1 := by decide

/-- A word that is at least 0 and less than 4096 as a signed number is so as an unsigned one. -/
theorem position (w : BitVec 32) (h0 : IntOp.cmpi .sge w 0#32 = 1#1) (h1 : IntOp.cmpi .slt w 4096#32 = 1#1) : w.toNat < 4096 := by
  rw [cmpi_sge_eq] at h0
  rw [cmpi_slt_eq] at h1
  have e0 : (0#32 : BitVec 32).toInt ≤ w.toInt := by
    by_contra h
    rw [decide_eq_false h] at h0
    exact absurd h0 (by decide)
  have e1 : w.toInt < (4096#32 : BitVec 32).toInt := by
    by_contra h
    rw [decide_eq_false h] at h1
    exact absurd h1 (by decide)
  have z0 : (0#32 : BitVec 32).toInt = 0 := by decide
  have z1 : (4096#32 : BitVec 32).toInt = 4096 := by decide
  have := w.isLt
  rw [z0] at e0
  rw [z1] at e1
  rw [BitVec.toInt_eq_toNat_cond] at e0 e1
  split at e1 <;> omega

/-- The precondition, where it holds, puts the sixteen rows inside one chunk of the sequence. -/
theorem inChunk {F : FTy → Type} [FloatOps F] (xk xv : FVec F S16x8x8x128 .f32) (kp vp : FVec F S8x8x4096x128 .f32) (o : IVec S_ 32)
    (h : fn (F := F) xk xv kp vp o = fun _ => 1#1) (j : S_.Idx) : InChunk (o j) := by
  have h' : IntOp.andi (IntOp.andi (IntOp.cmpi .sge (o j) 0#32) (IntOp.cmpi .slt (o j) 4096#32))
      (IntOp.cmpi .sle (remWord (o j)) 1008#32) = 1#1 := congrFun h j
  obtain ⟨h01, h2⟩ := both _ _ h'
  obtain ⟨h0, h1⟩ := both _ _ h01
  have hp := position (o j) h0 h1
  refine ⟨hp, rem_compare ⟨(o j).toNat, hp⟩ ?_⟩
  rwa [BitVec.ofNat_toNat, BitVec.setWidth_eq]

end Cert.Proof.Pre

end
-- ==== Proof.Reference.lean ====
/- What the reference computes: the update's rows, their axes permuted to the cache's order, written into the cache at the offset; which is
   the cache with the sixteen rows laid over it. -/
module

public import proofs.«01_k».proof.Proof.Whole
public import proofs.«01_k».proof.Proof.Gen.ReferenceIdeal.Run
public import Idealize.ShloMosaic.Lib.Pipeline.ValueKit
public import Idealize.ShloMosaic.Lib.WordCmp

@[expose] public section

set_option maxRecDepth 16384

noncomputable section

namespace Cert.Proof.Reference

open Cert.ReferenceIdeal Cert.ReferenceIdeal.Gen Cert.Proof.Words Cert.Proof.Whole
open Idealize.ShloMosaic Idealize.ShloMosaic.WordCmp

variable {F : FTy → Type}

/-- The start of the write on each axis: the offset on the sequence axis (4096 added were it negative), 0 on the others. -/
abbrev start (o : IVec S_ 32) : Fin 4 → IVec S_ 32 :=
  ![constantI S_ 32 0#32, constantI S_ 32 0#32, select (cmpi .slt o (constantI S_ 32 0#32)) (addi o (constantI S_ 32 4096#32)) o,
    constantI S_ 32 0#32]

/-- An offset that is a position of the sequence is taken as it stands. -/
theorem start_eq (o : IVec S_ 32) (j : S_.Idx) (h : (o j).toNat < 4096) (a : Fin 4) :
    (start o a j).toInt = ((![0, 0, (o j).toNat, 0] : Fin 4 → ℕ) a : Int) := by
  have e : (o j).toInt = ((o j).toNat : Int) := toInt_eq_toNat_of_lt_half (by omega)
  match a with
  | 0 => rfl
  | 1 => rfl
  | 2 =>
    show (Scalar.select (IntOp.cmpi .slt (o j) 0#32) (IntOp.addi (o j) 4096#32) (o j)).toInt = ((o j).toNat : Int)
    rw [cmpi_slt_zero, decide_eq_false (by omega)]
    exact e
  | 3 => rfl

/-- The rows written from a position that leaves room for sixteen fit in the cache. -/
theorem fits (n : ℕ) (h : n ≤ 4080) : S8x8x4096x128.Slices ![0, 0, n, 0] S8x8x16x128 := by
  refine ⟨rfl, fun a => ?_⟩
  match a with
  | 0 => exact (by decide : 0 + 8 ≤ 8)
  | 1 => exact (by decide : 0 + 8 ≤ 8)
  | 2 => exact (by omega : n + 16 ≤ 4096)
  | 3 => exact (by decide : 0 + 128 ≤ 128)

/-- The permuted update at a place: the update at the place with its first three axes reversed. -/
theorem permuted (x : Vec F S16x8x8x128 .f32) (j : S8x8x16x128.Idx) :
    transpose S8x8x16x128 [2, 1, 0, 3] x transposes_S16x8x8x128_S8x8x16x128_2_1_0_3 j
      = x (ix4 (n0 := 16) (n1 := 8) (n2 := 8) (n3 := 128) (j 2) (j 1) (j 0) (j 3)) :=
  transpose_apply _ _ _ _ _ fun b => match b with
    | ⟨0, _⟩ => rfl | ⟨1, _⟩ => rfl | ⟨2, _⟩ => rfl | ⟨3, _⟩ => rfl

/-- The reference's result is the cache with the sixteen rows laid over it. -/
theorem reference_eq (x : Vec F S16x8x8x128 .f32) (k : Vec F S8x8x4096x128 .f32) (o : IVec S_ 32) (j : S_.Idx) (h : InChunk (o j)) :
    Host.dynamicUpdateSlice k (transpose S8x8x16x128 [2, 1, 0, 3] x transposes_S16x8x8x128_S8x8x16x128_2_1_0_3)
      (fun a => (start o a j).toInt) updateFits_S8x8x4096x128_S8x8x16x128 = whole (o j).toNat x k := by
  obtain ⟨h1, h2⟩ := h
  rw [dynamicUpdateSlice_eq_update _ _ _ _ _ (fits (o j).toNat (by omega)) (start_eq o j h1)]
  funext z
  unfold updateSlice whole
  have b0 : (z 0).val < 8 := (z 0).isLt
  have b1 : (z 1).val < 8 := (z 1).isLt
  have b3 : (z 3).val < 128 := (z 3).isLt
  by_cases hz : (o j).toNat ≤ (z 2).val ∧ (z 2).val < (o j).toNat + 16
  · rw [dif_pos hz, dif_pos (fun a => match a with
      | 0 => ⟨Nat.zero_le _, by show (z 0).val < 0 + 8; omega⟩
      | 1 => ⟨Nat.zero_le _, by show (z 1).val < 0 + 8; omega⟩
      | 2 => hz
      | 3 => ⟨Nat.zero_le _, by show (z 3).val < 0 + 128; omega⟩)]
    exact permuted x _
  · rw [dif_neg hz, dif_neg (fun h => hz (h 2))]

end Cert.Proof.Reference

end
-- ==== Proof.lean ====
/- The certificate's claims: the kernel and its idealization run and leave their arguments as they were, so does the reference, and the
   idealized kernel's two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_chunk_holds_update
public import proofs.«01_k».proof.Proof.Run
public import proofs.«01_k».proof.Proof.Same
public import proofs.«01_k».proof.Proof.Pre
public import proofs.«01_k».proof.Proof.Reference

@[expose] public section

noncomputable section

namespace Cert.Proof

open Idealize.ShloMosaic Idealize.SL.Sem

/-- The precondition of the kernel's claims, read at the offset. -/
theorem kernel_inChunk (m : (ℓ : Loc Cert.Kernel.nD Cert.Kernel.τ Cert.Kernel.sig) → Buf (Elt Bits) ℓ) (h : Cert.Pre_Kernel m)
    (c : Dev Cert.Kernel.nD) : Words.InChunk (Run.offset (F := Bits) m c) :=
  Pre.inChunk _ _ _ _ _ (h c) _

/-- The precondition of the idealized kernel's claims, read at the offset. -/
theorem ideal_inChunk (m : (ℓ : Loc Cert.KernelIdeal.nD Cert.KernelIdeal.τ Cert.KernelIdeal.sig) → Buf (Elt Ideal) ℓ)
    (h : Cert.Pre_KernelIdeal m) (c : Dev Cert.KernelIdeal.nD) : Words.InChunk (Run.offset (F := Ideal) m c) :=
  Pre.inChunk _ _ _ _ _ (h c) _

/-- The kernel's frame. -/
theorem kernel_frame : Cert.quiescent_Kernel := fun m g h =>
  (θ_run _ _ _).mono (fun _ p => ⟨fun c => (p.1 c).2.2, p.2⟩) (Run.run m g (kernel_inChunk m h))

/-- The idealized kernel's frame. -/
theorem ideal_frame : Cert.quiescent_KernelIdeal := fun m g h =>
  (θ_run _ _ _).mono (fun _ p => ⟨fun c => (p.1 c).2.2, p.2⟩) (Same.run m g (ideal_inChunk m h))

/-- The reference's frame, whatever its arguments. -/
theorem reference_frame : Cert.quiescent_ReferenceIdeal := fun m g _ =>
  (θ_run _ _ _).mono (fun r p => ⟨fun c => (p c).2.2, sem_eq_zero_of_no_sems rfl r.2⟩) (Cert.ReferenceIdeal.Value.run m g)

/-- The idealized kernel and the reference, run on the same arguments, end with the same two results. -/
theorem values : Cert.algebraic_KernelIdeal_ReferenceIdeal := fun m g m' g' h e => by
  have hw := ideal_inChunk m h
  refine ⟨_, _, (θ_run _ _ _).mono (fun _ p => p.1) (Same.run m g hw),
    (θ_run _ _ _).mono (fun _ p c => ?_) (Cert.ReferenceIdeal.Value.run m' g')⟩
  obtain ⟨p0, p1, p⟩ := p c
  obtain ⟨e0, e1, e2, e3, e4⟩ := e c
  refine ⟨p0.trans ?_, p1.trans ?_, p⟩
  · rw [e0, e2, e4]
    exact Reference.reference_eq _ _ _ _ (hw c)
  · rw [e1, e3, e4]
    exact Reference.reference_eq _ _ _ _ (hw c)

/-- All of them together. -/
theorem claim : Cert.Claim :=
  ⟨Cert.Kernel.Gen.facts, Cert.KernelIdeal.Gen.facts, Cert.ReferenceIdeal.Gen.facts, Cert.Pre_chunk_holds_update.Gen.facts,
    kernel_frame, ideal_frame, reference_frame, fun m g _ => reference_frame m g trivial, trivial, values⟩

end Cert.Proof

end
